-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x26 : Shape := ⟨2, ![16384, 26]⟩
abbrev S26x16384 : Shape := ⟨2, ![26, 16384]⟩
abbrev S26x1x16384 : Shape := ⟨3, ![26, 1, 16384]⟩
abbrev S26x257x16384 : Shape := ⟨3, ![26, 257, 16384]⟩
abbrev S1x1x16384 : Shape := ⟨3, ![1, 1, 16384]⟩
abbrev S1x88x16384 : Shape := ⟨3, ![1, 88, 16384]⟩
abbrev S1x16384 : Shape := ⟨2, ![1, 16384]⟩
abbrev S88x16384 : Shape := ⟨2, ![88, 16384]⟩
abbrev S16384x26x257 : Shape := ⟨3, ![16384, 26, 257]⟩

abbrev nBuf : Space → Nat
  | .hbm => 5
  | .vmem => 4
  | .smem => 0
  | _ => 0

abbrev bufTy : (tb : Table) → Fin (tcTables nBuf tb) → BufTy
  | .hbm, ⟨0, _⟩ => ⟨S16384x26, .i32⟩
  | .hbm, ⟨1, _⟩ => ⟨S26x16384, .i32⟩
  | .hbm, ⟨2, _⟩ => ⟨S26x1x16384, .i32⟩
  | .hbm, ⟨3, _⟩ => ⟨S26x257x16384, .f32⟩
  | .hbm, ⟨4, _⟩ => ⟨S16384x26x257, .f32⟩
  | .local _ .vmem, ⟨0, _⟩ => ⟨S1x1x16384, .i32⟩
  | .local _ .vmem, ⟨1, _⟩ => ⟨S1x1x16384, .i32⟩
  | .local _ .vmem, ⟨2, _⟩ => ⟨S1x88x16384, .f32⟩
  | .local _ .vmem, ⟨3, _⟩ => ⟨S1x88x16384, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![26, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x88x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S16384x26 : Shape := ⟨2, ![16384, 26]⟩
abbrev S16384x26x1 : Shape := ⟨3, ![16384, 26, 1]⟩
abbrev S1x1x257 : Shape := ⟨3, ![1, 1, 257]⟩
abbrev S16384x26x257 : Shape := ⟨3, ![16384, 26, 257]⟩

abbrev nBuf : Space → Nat
  | .hbm => 7
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x26x1, .i32⟩
  | .hbm, ⟨2, _⟩ => ⟨S1x1x257, .i32⟩
  | .hbm, ⟨3, _⟩ => ⟨S16384x26x257, .i32⟩
  | .hbm, ⟨4, _⟩ => ⟨S16384x26x257, .i32⟩
  | .hbm, ⟨5, _⟩ => ⟨S16384x26x257, .i1⟩
  | .hbm, ⟨6, _⟩ => ⟨S16384x26x257, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.OneHot.Hot.lean ====
/-
  One entry of a one-hot row over the extended reals, and the two ways in which a comparison's bit becomes that
  entry: the kernel widens the bit to a word and converts the word as a signed integer, the host converts the bit
  itself as an unsigned one.
-/
module

public import Idealize.ShloMosaic.PureOps.Ideal
public import Idealize.ShloMosaic.PureOps.Vector

@[expose] public section

noncomputable section

namespace OneHot

open Idealize.ShloMosaic

/-- Entry `k` of the one-hot row of the word `w`: one where `w` is the word `k`, zero elsewhere. -/
def hot (w : BitVec 32) (k : Nat) : EReal := if w = BitVec.ofNat 32 k then 1 else 0

/-- The comparison's bit widened to a word and converted as a signed integer is the one-hot entry. -/
theorem signed_word_eq_hot (w : BitVec 32) (k : Nat) :
    (((((IntOp.cmpi .eq w (BitVec.ofNat 32 k)).setWidth 32).toInt : ℤ) : ℝ) : EReal) = hot w k := by
  unfold hot
  by_cases h : w = BitVec.ofNat 32 k
  · simp [IntOp.cmpi, h]
  · simp [IntOp.cmpi, h, beq_eq_false_iff_ne.mpr h]

/-- The comparison's bit converted as an unsigned integer is the one-hot entry. -/
theorem unsigned_bit_eq_hot (w : BitVec 32) (k : Nat) :
    ((((IntOp.cmpi .eq w (BitVec.ofNat 32 k)).toNat : ℕ) : ℝ) : EReal) = hot w k := by
  unfold hot
  by_cases h : w = BitVec.ofNat 32 k
  · simp [IntOp.cmpi, h]
  · simp [IntOp.cmpi, h, beq_eq_false_iff_ne.mpr h]

/-- The kernel's column number, as a word: row `a` of the block plus the block's number times 88 is the word of
    `b · 88 + a` (the sum of words wraps as the word of the sum does). -/
theorem column_word (a b : Nat) :
    BitVec.ofNat 32 a + BitVec.ofNat 32 b * 88#32 = BitVec.ofNat 32 (b * 88 + a) := by
  rw [Nat.add_comm, BitVec.ofNat_add, BitVec.ofNat_mul]

end OneHot

end
-- ==== Proof.OneHot.Block.lean ====
/-
  What one grid point of the kernel computes: its output block, read at an entry, from its input block.
-/
module

public import proofs.«01_k».proof.Proof.Gen.KernelIdeal.Skeleton
public import proofs.«01_k».proof.Proof.OneHot.Hot
public import Idealize.ShloMosaic.Lib.Pipeline.Value

@[expose] public section

noncomputable section

namespace OneHot

open Idealize.ShloMosaic Cert.KernelIdeal Cert.KernelIdeal.Gen

/-- The place of sample `r` in an input block. -/
abbrev blockIn (r : Fin 16384) : S1x1x16384.Idx := fun a => match a with
  | ⟨0, _⟩ => ⟨0, Nat.one_pos⟩
  | ⟨1, _⟩ => ⟨0, Nat.one_pos⟩
  | ⟨2, _⟩ => r

/-- The input block laid out as one row and repeated over the 88 rows of the output block reads, in column `r` of
    every row, the block's sample `r`. -/
theorem repeated_apply (x : Vec Ideal S1x1x16384 .i32) (j : S88x16384.Idx) :
    broadcastTo S88x16384 (shapeCast S1x16384 (shapeCast S1x16384 x shapeCasts_S1x1x16384_S1x16384)
      shapeCasts_S1x16384_S1x16384) broadcasts_S1x16384_S88x16384 j = x (blockIn (j 1)) := by
  rw [shapeCast_self]
  refine (broadcastTo_apply _ broadcasts_S1x16384_S88x16384 j
    (fun a => match a with | ⟨0, _⟩ => ⟨0, Nat.one_pos⟩ | ⟨1, _⟩ => j 1 : S1x16384.Idx) fun a => match a with
    | ⟨0, _⟩ => by show 0 = if (1 : Nat) = 1 then 0 else _; rw [if_pos rfl]
    | ⟨1, _⟩ => by show (j 1).val = if (16384 : Nat) = 1 then 0 else (j 1).val; rw [if_neg (by decide)]).trans ?_
  refine (shapeCast_dropUnit_apply ![1, 16384] x shapeCasts_S1x1x16384_S1x16384 _).trans (congrArg x ?_)
  funext a
  match a with
  | ⟨0, _⟩ => rfl
  | ⟨1, _⟩ => rfl
  | ⟨2, _⟩ => rfl

/-- The output block of the grid point `i`: entry `(0, a, r)` is the one-hot entry of the block's sample `r` at
    column `88 · i₁ + a`. -/
theorem block_apply (i : grid0.Coords) (x : Vec Ideal S1x1x16384 .i32) (y : S1x88x16384.Idx) :
    k0_pay1 (F := Ideal) i x y = hot (x (blockIn (y 2))) ((i 1).val * 88 + (y 1).val) := by
  unfold k0_pay1
  dsimp only
  refine (shapeCast_addUnit_apply ![88, 16384] _ shapeCasts_S88x16384_S1x88x16384 y).trans ?_
  refine Eq.trans ?_ (signed_word_eq_hot _ _)
  rw [← column_word]
  exact congrArg₂ (fun p q : BitVec 32 => (((((IntOp.cmpi .eq p q).setWidth 32).toInt : ℤ) : ℝ) : EReal))
    (repeated_apply x fun a => y a.succ)
    (congrArg (· + BitVec.ofNat 32 (i 1).val * 88#32)
      (iota_single_apply .tc S88x16384 32 0 iota_S88x16384_d0_w32 fun a => y a.succ))

end OneHot

end
-- ==== Proof.OneHot.Table.lean ====
/-
  What the array that the pallas_call returns holds after the run: the one-hot entries, sample by sample along its
  last axis. The 78 grid points write 88-row blocks of it, the last block of each plane cut at row 257.
-/
module

public import proofs.«01_k».proof.Proof.Gen.KernelIdeal.Frame
public import proofs.«01_k».proof.Proof.OneHot.Block
public import Idealize.ShloMosaic.Lib.Pipeline.ValueKit.Geometry

@[expose] public section

noncomputable section

namespace OneHot

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The place of field `j` of sample `r` in the kernel's argument. -/
abbrev argAt (r : Fin 16384) (j : Fin 26) : S16384x26.Idx := fun a => match a with
  | ⟨0, _⟩ => r
  | ⟨1, _⟩ => j

/-- The array that the pallas_call returns, as a function of the argument: entry `(j, k, r)` is the one-hot entry at
    column `k` of field `j` of sample `r`. -/
def table (x : S16384x26.Idx → BitVec 32) : S26x257x16384.Idx → EReal :=
  fun i => hot (x (argAt (i 2) (i 0))) (i 1).val

/-- The operand of the pallas_call is the argument, transposed and given a unit axis. -/
theorem operand_eq (c : Dev nD) :
    V m c main_v1 = shapeCast S26x1x16384 (transpose S26x16384 [1, 0] (m ((c : Thread nD τ).loc main_arg0))
      transposes_S16384x26_S26x16384_1_0) shapeCasts_S26x16384_S26x1x16384 := by
  unfold V V0 hostOps0
  simp only [List.flatten_cons, List.flatten_nil, List.append_nil]
  after_results
  rfl

/-- The operand of the pallas_call at an entry. -/
theorem operand_apply (c : Dev nD) (i : S26x1x16384.Idx) :
    V m c main_v1 i = m ((c : Thread nD τ).loc main_arg0) (argAt (i 2) (i 0)) := by
  rw [operand_eq]
  have h1 : (i 1).val = 0 := by have : (i 1).val < 1 := (i 1).isLt; omega
  refine (shapeCast_apply _ shapeCasts_S26x16384_S26x1x16384 i
    (fun a => match a with | ⟨0, _⟩ => i 0 | ⟨1, _⟩ => i 2 : S26x16384.Idx) ?_).trans ?_
  · rw [Shape.rowMajor_val_two, Shape.rowMajor_val_three]
    show (i 0).val * 16384 + (i 2).val = ((i 0).val * 1 + (i 1).val) * 16384 + (i 2).val
    omega
  · exact transpose_apply [1, 0] _ transposes_S16384x26_S26x16384_1_0 _ (argAt (i 2) (i 0)) fun b => match b with
      | ⟨0, _⟩ => rfl
      | ⟨1, _⟩ => rfl

/-- Which block each window is on: the plane is the outer grid coordinate, the row block the inner one. -/
theorem blocks_at : ∀ t : Fin cfg0.N, win0_0.index t = ![(grid0.coords t 0).val, 0, 0]
    ∧ win0_1.index t = ![(grid0.coords t 0).val, (grid0.coords t 1).val, 0] :=
  (by decide +kernel : ∀ t : Fin grid0.N, _)

/-- The zero offset on three axes. -/
theorem zero3 : (![0, 0, 0] : Fin 3 → Nat) = fun _ => 0 := funext fun a => by fin_cases a <;> rfl

/-- The array that the pallas_call returns, after the run. -/
theorem final_table (c : Dev nD) :
    (dats m 0 c).arrAt 1 cfg0.N = table (m ((c : Thread nD τ).loc main_arg0)) := by
  refine (dats m 0 c).arrAt_eq_of_covers 1 _ (by decide +kernel) fun t hf y => ?_
  rw [after0_1]
  unfold out0_1
  rw [View.canon_unit_zero zero3, View.ld_unit_zero zero3]
  have e : ∀ a, (((cfg0.win 1).blk t).view.emb y a : ℕ) = win0_1.index t a * win0_1.size a + (y a : ℕ) :=
    fun a => win0_1.rect_emb_val t y a
  refine (block_apply (grid0.coords t) (iblk m c 0 t) ((cfg0.win 1).xinj (cfg0.grid.coords t) y)).trans ?_
  show hot (V m c main_v1 (((cfg0.win 0).blk t).view.emb _)) _ = hot _ _
  rw [operand_apply]
  obtain ⟨e0, e1⟩ := blocks_at t
  have f : ∀ z a, (((cfg0.win 0).blk t).view.emb z a : ℕ) = win0_0.index t a * win0_0.size a + (z a : ℕ) :=
    fun z a => win0_0.rect_emb_val t z a
  -- the sample, the plane and the column, each at its offset in the array
  have sample : (((cfg0.win 0).blk t).view.emb (blockIn ((cfg0.win 1).xinj (cfg0.grid.coords t) y 2)) 2 : ℕ)
      = (((cfg0.win 1).blk t).view.emb y 2 : ℕ) :=
     (win0_0.rect_emb_val_of_index_zero t 2 (congrFun e0 2) _).trans
      (win0_1.rect_emb_val_of_index_zero t 2 (congrFun e1 2) y).symm
  have plane : (((cfg0.win 0).blk t).view.emb (blockIn ((cfg0.win 1).xinj (cfg0.grid.coords t) y 2)) 0 : ℕ)
      = (((cfg0.win 1).blk t).view.emb y 0 : ℕ) := by
    refine (f _ 0).trans ((e 0).trans ?_).symm
    rw [e0, e1]
    have : (y 0 : ℕ) < 1 := Nat.lt_of_lt_of_le (y 0).isLt ((cfg0.win 1).xsize_le _ 0)
    show (grid0.coords t 0).val * 1 + (y 0 : ℕ) = (grid0.coords t 0).val * 1 + 0
    omega
  have column : (grid0.coords t 1).val * 88 + ((cfg0.win 1).xinj (cfg0.grid.coords t) y 1 : ℕ)
      = (((cfg0.win 1).blk t).view.emb y 1 : ℕ) := by
    refine ((e 1).trans ?_).symm
    rw [e1]
    rfl
  exact congrArg₂ hot (congrArg _ (congrArg₂ argAt (Fin.ext sample) (Fin.ext plane))) column

end OneHot

end
-- ==== Proof.OneHot.Reference.lean ====
/-
  What the reference computes, read at an entry.
-/
module

public import proofs.«01_k».proof.Proof.Gen.ReferenceIdeal.Read
public import proofs.«01_k».proof.Proof.OneHot.Hot

@[expose] public section

noncomputable section

namespace OneHot

open Idealize.ShloMosaic

/-- Entry `(r, j, k)` of the reference's result is the one-hot entry at column `k` of field `j` of sample `r`. -/
theorem reference_apply (x : Cert.ReferenceIdeal.S16384x26.Idx → BitVec 32) (i : Cert.ReferenceIdeal.S16384x26x257.Idx) :
    Cert.ReferenceIdeal.Read.val_main_v0 (F := Ideal) x i
      = hot (x fun a => match a with | ⟨0, _⟩ => i 0 | ⟨1, _⟩ => i 1) (i 2).val := by
  rw [Cert.ReferenceIdeal.Read.val_main_v0_apply, Cert.ReferenceIdeal.Read.val_main_call0_v4_apply,
    Cert.ReferenceIdeal.Read.val_main_call0_v2_apply, Cert.ReferenceIdeal.Read.val_main_call0_v0_apply,
    Cert.ReferenceIdeal.Read.val_main_call0_v3_apply, Cert.ReferenceIdeal.Read.val_main_call0_v1_apply]
  exact unsigned_bit_eq_hot _ _

end OneHot

end
-- ==== Proof.OneHot.Run.lean ====
/-
  The kernel's run, read: its result is the returned table with the sample axis moved to the front, which is the
  reference's result.
-/
module

public import proofs.«01_k».proof.Proof.OneHot.Table
public import proofs.«01_k».proof.Proof.OneHot.Reference

@[expose] public section

noncomputable section

namespace OneHot

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The kernel's result as a function of the argument: the table, its sample axis moved to the front. -/
def result (x : S16384x26.Idx → BitVec 32) : S16384x26x257.Idx → EReal :=
  transpose S16384x26x257 [2, 0, 1] (table x) transposes_S26x257x16384_S16384x26x257_2_0_1

/-- Entry `(r, j, k)` of the kernel's result is the one-hot entry at column `k` of field `j` of sample `r`. -/
theorem result_apply (x : S16384x26.Idx → BitVec 32) (i : S16384x26x257.Idx) :
    result x i = hot (x (argAt (i 0) (i 1))) (i 2).val :=
  (transpose_apply [2, 0, 1] (table x) transposes_S26x257x16384_S16384x26x257_2_0_1 i
    (fun a => match a with | ⟨0, _⟩ => i 1 | ⟨1, _⟩ => i 2 | ⟨2, _⟩ => i 0 : S26x257x16384.Idx)
    fun b => match b with | ⟨0, _⟩ => rfl | ⟨1, _⟩ => rfl | ⟨2, _⟩ => rfl)

/-- The kernel and the reference compute the same function. -/
theorem result_eq_reference (x : S16384x26.Idx → BitVec 32) :
    result x = Cert.ReferenceIdeal.Read.val_main_v0 (F := Ideal) x :=
  funext fun i => by
    rw [result_apply]
    refine (congrArg (fun p => hot (x p) (i 2).val) ?_).trans (reference_apply x i).symm
    funext a
    match a with
    | ⟨0, _⟩ => rfl
    | ⟨1, _⟩ => rfl

/-- The last host line transposes what the pallas_call returned. -/
theorem returned (c : Dev nD) :
    Pipeline.afterTail₀ cfgs (dats m) 0 (V0 m) [hostOps1] c main_v3 = result (m ((c : Thread nD τ).loc main_arg0)) := by
  unfold Pipeline.afterTail₀ result
  rw [← final_table m c]
  simp only [List.flatten_cons, List.flatten_nil, List.append_nil, hostOps1]
  after_results
  exact congrArg (fun v => transpose S16384x26x257 [2, 0, 1] v transposes_S26x257x16384_S16384x26x257_2_0_1)
    (Pipeline.withArrays_arr spec0 launch0.win.arr_inj c (V0 m c) (fun w => (dats m 0 c).arrAt w cfg0.N) 1)

/-- Every execution of the idealized kernel ends with the result at that function of the argument, and the argument
    unchanged. -/
theorem run : θ_run defs (onTc (τ := τ) (main (F := Ideal))) ⟨m, fun _ => 0, ρ⟩ fun r => ∀ c : Dev nD,
      r.2.mem ((c.tc : Thread nD τ).loc main_v3) = result (m ((c : Thread nD τ).loc main_arg0))
      ∧ r.2.mem ((c.tc : Thread nD τ).loc main_arg0) = m ((c.tc : Thread nD τ).loc main_arg0) :=
  (θ_run defs _ _).mono (fun _ h c =>
    ⟨((h c).2 main_v3 (Pipeline.mem_restRefs_of main_v3 (by decide) (by decide))).trans (returned m c),
      ((h c).2 main_arg0 (Pipeline.mem_restRefs_of main_arg0 (by decide) (by decide))).trans (W_main_arg0 m (dats m) c)⟩)
    (run_main m ρ)

end OneHot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.OneHot.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The idealized kernel and the idealized reference end with the same result: the kernel's is `OneHot.result` of the
    argument, the reference's its one-hot term, and the two are one function. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => OneHot.result (m ((c.tc : Thread Cert.KernelIdeal.nD Cert.KernelIdeal.τ).loc Cert.KernelIdeal.main_arg0)),
    OneHot.run m g,
    (θ_run Cert.ReferenceIdeal.defs _ _).mono (fun _ h c => ⟨by
      rw [(h c).1, hagree c]
      exact (OneHot.result_eq_reference _).symm, (h c).2⟩) (Cert.ReferenceIdeal.Value.run m' g')⟩

/-- All five claims together. The reference has no semaphores, so its counters are zero at the end. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun _ h => ⟨fun c => (h c).2, sem_eq_zero_of_no_sems rfl _⟩) (Cert.ReferenceIdeal.Value.run m ρ),
  trivial,
  algebraic⟩

end Cert.Proof

end
